-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S4x2048x12032 : Shape := ⟨3, ![4, 2048, 12032]⟩
abbrev S4x2048x94 : Shape := ⟨3, ![4, 2048, 94]⟩
abbrev S12032x2176 : Shape := ⟨2, ![12032, 2176]⟩
abbrev S2176 : Shape := ⟨1, ![2176]⟩
abbrev S4x2048x2176 : Shape := ⟨3, ![4, 2048, 2176]⟩
abbrev S_ : Shape := ⟨0, ![]⟩

class Facts : Prop where
  bcast_S_S2176 : S_.BroadcastsInDim S2176 (![] : Fin 0 → Fin S2176.rank)
  reducesTo_S2176_S_d0 : S2176.ReducesTo [0] S_
  h_S_ : 0 < S_.numel

variable [Facts]

def fn {F : FTy → Type} [FloatOps F] (main_arg0 : FVec F S4x2048x12032 .fp8e4m3) (main_arg1 : FVec F S4x2048x94 .f32) (main_arg2 : FVec F S12032x2176 .fp8e4m3) (main_arg3 : FVec F S2176 .f32) (main_arg4 : FVec F S4x2048x2176 .bf16) (main_arg5 : FVec F S2176 .bf16) : IVec S_ 1 :=
  let main_v0 : FVec F S2176 .bf16 := Host.absf main_arg5
  let main_cst : FVec F S_ .bf16 := constant S_ .bf16 0x7F7F#16
  let main_v1 : FVec F S2176 .bf16 := broadcastInDim S2176 ![] bcast_S_S2176 main_cst
  let main_v2 : IVec S2176 1 := cmpf .ole main_v0 main_v1
  let main_c : IVec S_ 1 := constantI S_ 1 1#1
  let main_v3 : IVec S_ 1 := (fun x v => Host.reduce IntOp.andi x v reducesTo_S2176_S_d0 h_S_) main_v2 main_c
  main_v3
-- ==== Kernel.lean ====
abbrev S4x2048x12032 : Shape := ⟨3, ![4, 2048, 12032]⟩
abbrev S4x2048x94 : Shape := ⟨3, ![4, 2048, 94]⟩
abbrev S12032x2176 : Shape := ⟨2, ![12032, 2176]⟩
abbrev S2176 : Shape := ⟨1, ![2176]⟩
abbrev S4x2048x2176 : Shape := ⟨3, ![4, 2048, 2176]⟩
abbrev S8192x12032 : Shape := ⟨2, ![8192, 12032]⟩
abbrev S8192x94 : Shape := ⟨2, ![8192, 94]⟩
abbrev S1x2176 : Shape := ⟨2, ![1, 2176]⟩
abbrev S8192x2176 : Shape := ⟨2, ![8192, 2176]⟩
abbrev S8192x1 : Shape := ⟨2, ![8192, 1]⟩
abbrev S256x12032 : Shape := ⟨2, ![256, 12032]⟩
abbrev S256x94 : Shape := ⟨2, ![256, 94]⟩
abbrev S256x2176 : Shape := ⟨2, ![256, 2176]⟩
abbrev S256x1 : Shape := ⟨2, ![256, 1]⟩
abbrev S256x128 : Shape := ⟨2, ![256, 128]⟩
abbrev S256 : Shape := ⟨1, ![256]⟩
abbrev S1x256 : Shape := ⟨2, ![1, 256]⟩
abbrev S256x256 : Shape := ⟨2, ![256, 256]⟩

abbrev nBuf : Space → Nat
  | .hbm => 14
  | .vmem => 16
  | .smem => 0
  | _ => 0

abbrev bufTy : (tb : Table) → Fin (tcTables nBuf tb) → BufTy
  | .hbm, ⟨0, _⟩ => ⟨S4x2048x12032, .fp8e4m3⟩
  | .hbm, ⟨1, _⟩ => ⟨S4x2048x94, .f32⟩
  | .hbm, ⟨2, _⟩ => ⟨S12032x2176, .fp8e4m3⟩
  | .hbm, ⟨3, _⟩ => ⟨S2176, .f32⟩
  | .hbm, ⟨4, _⟩ => ⟨S4x2048x2176, .bf16⟩
  | .hbm, ⟨5, _⟩ => ⟨S2176, .bf16⟩
  | .hbm, ⟨6, _⟩ => ⟨S8192x12032, .fp8e4m3⟩
  | .hbm, ⟨7, _⟩ => ⟨S8192x94, .f32⟩
  | .hbm, ⟨8, _⟩ => ⟨S1x2176, .f32⟩
  | .hbm, ⟨9, _⟩ => ⟨S8192x2176, .bf16⟩
  | .hbm, ⟨10, _⟩ => ⟨S1x2176, .bf16⟩
  | .hbm, ⟨11, _⟩ => ⟨S8192x2176, .bf16⟩
  | .hbm, ⟨12, _⟩ => ⟨S8192x2176, .fp8e4m3⟩
  | .hbm, ⟨13, _⟩ => ⟨S8192x1, .f32⟩
  | .local _ .vmem, ⟨0, _⟩ => ⟨S256x12032, .fp8e4m3⟩
  | .local _ .vmem, ⟨1, _⟩ => ⟨S256x12032, .fp8e4m3⟩
  | .local _ .vmem, ⟨2, _⟩ => ⟨S256x94, .f32⟩
  | .local _ .vmem, ⟨3, _⟩ => ⟨S256x94, .f32⟩
  | .local _ .vmem, ⟨4, _⟩ => ⟨S12032x2176, .fp8e4m3⟩
  | .local _ .vmem, ⟨5, _⟩ => ⟨S1x2176, .f32⟩
  | .local _ .vmem, ⟨6, _⟩ => ⟨S256x2176, .bf16⟩
  | .local _ .vmem, ⟨7, _⟩ => ⟨S256x2176, .bf16⟩
  | .local _ .vmem, ⟨8, _⟩ => ⟨S1x2176, .bf16⟩
  | .local _ .vmem, ⟨9, _⟩ => ⟨S256x2176, .bf16⟩
  | .local _ .vmem, ⟨10, _⟩ => ⟨S256x2176, .bf16⟩
  | .local _ .vmem, ⟨11, _⟩ => ⟨S256x2176, .fp8e4m3⟩
  | .local _ .vmem, ⟨12, _⟩ => ⟨S256x2176, .fp8e4m3⟩
  | .local _ .vmem, ⟨13, _⟩ => ⟨S256x1, .f32⟩
  | .local _ .vmem, ⟨14, _⟩ => ⟨S256x1, .f32⟩
  | .local _ .vmem, ⟨15, _⟩ => ⟨S256x12032, .bf16⟩
  | _, _ => ⟨S4x2048x12032, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x12032 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x94 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12032x2176 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2176 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x2048x12032 : Shape := ⟨3, ![4, 2048, 12032]⟩
abbrev S4x2048x94 : Shape := ⟨3, ![4, 2048, 94]⟩
abbrev S12032x2176 : Shape := ⟨2, ![12032, 2176]⟩
abbrev S2176 : Shape := ⟨1, ![2176]⟩
abbrev S4x2048x2176 : Shape := ⟨3, ![4, 2048, 2176]⟩
abbrev S4x2048x94x128 : Shape := ⟨4, ![4, 2048, 94, 128]⟩
abbrev S8192x12032 : Shape := ⟨2, ![8192, 12032]⟩
abbrev S1x2176 : Shape := ⟨2, ![1, 2176]⟩
abbrev S8192x2176 : Shape := ⟨2, ![8192, 2176]⟩
abbrev S8192x1 : Shape := ⟨2, ![8192, 1]⟩
abbrev S8192 : Shape := ⟨1, ![8192]⟩

abbrev nBuf : Space → Nat
  | .hbm => 17
  | .vmem => 9
  | .smem => 0
  | _ => 0

abbrev bufTy : (tb : Table) → Fin (tcTables nBuf tb) → BufTy
  | .hbm, ⟨0, _⟩ => ⟨S4x2048x12032, .fp8e4m3⟩
  | .hbm, ⟨1, _⟩ => ⟨S4x2048x94, .f32⟩
  | .hbm, ⟨2, _⟩ => ⟨S12032x2176, .fp8e4m3⟩
  | .hbm, ⟨3, _⟩ => ⟨S2176, .f32⟩
  | .hbm, ⟨4, _⟩ => ⟨S4x2048x2176, .bf16⟩
  | .hbm, ⟨5, _⟩ => ⟨S2176, .bf16⟩
  | .hbm, ⟨6, _⟩ => ⟨S4x2048x94, .bf16⟩
  | .hbm, ⟨7, _⟩ => ⟨S4x2048x94x128, .bf16⟩
  | .hbm, ⟨8, _⟩ => ⟨S4x2048x12032, .bf16⟩
  | .hbm, ⟨9, _⟩ => ⟨S8192x12032, .fp8e4m3⟩
  | .hbm, ⟨10, _⟩ => ⟨S8192x12032, .bf16⟩
  | .hbm, ⟨11, _⟩ => ⟨S1x2176, .f32⟩
  | .hbm, ⟨12, _⟩ => ⟨S8192x2176, .bf16⟩
  | .hbm, ⟨13, _⟩ => ⟨S1x2176, .bf16⟩
  | .hbm, ⟨14, _⟩ => ⟨S8192x2176, .bf16⟩
  | .hbm, ⟨15, _⟩ => ⟨S8192x2176, .fp8e4m3⟩
  | .hbm, ⟨16, _⟩ => ⟨S8192x1, .f32⟩
  | .local _ .vmem, ⟨0, _⟩ => ⟨S8192x12032, .fp8e4m3⟩
  | .local _ .vmem, ⟨1, _⟩ => ⟨S8192x12032, .bf16⟩
  | .local _ .vmem, ⟨2, _⟩ => ⟨S12032x2176, .fp8e4m3⟩
  | .local _ .vmem, ⟨3, _⟩ => ⟨S1x2176, .f32⟩
  | .local _ .vmem, ⟨4, _⟩ => ⟨S8192x2176, .bf16⟩
  | .local _ .vmem, ⟨5, _⟩ => ⟨S1x2176, .bf16⟩
  | .local _ .vmem, ⟨6, _⟩ => ⟨S8192x2176, .bf16⟩
  | .local _ .vmem, ⟨7, _⟩ => ⟨S8192x2176, .fp8e4m3⟩
  | .local _ .vmem, ⟨8, _⟩ => ⟨S8192x1, .f32⟩
  | _, _ => ⟨S4x2048x12032, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x12032 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x12032 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12032x2176 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x2176 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x2176 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Block.lean ====
module

public import proofs.«01_k».proof.Proof.Gen.KernelIdeal.Value
public import Idealize.ShloMosaic.Lib.Pipeline.ValueKit
public import Idealize.ShloMosaic.Lib.Pipeline.ReadBack

/-! What one grid point of the kernel computes.

The body dequantizes its 256 rows into a scratch array in 94 column groups of 128, one scale for each group and row,
then loads the whole scratch. Here those 94 stores are read back as one array, so that each of the three stored
blocks is one expression over the point's input blocks. -/

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable (m : (ℓ : Loc nD τ sig) → Buf (Elt Ideal) ℓ)

/-- The dequantized rows: each code times the scale of its row and of its group of 128 columns. -/
def XB (x0 : Vec Ideal S256x12032 .fp8e4m3) (x1 : Vec Ideal S256x94 .f32) : FVec Ideal S256x12032 .bf16 :=
  fun j => (show EReal from x0 j) * (show EReal from x1 (ix2 (j 0) ⟨(j 1).val / 128, by
    have h : (j 1).val < 12032 := (j 1).isLt
    omega⟩))

/-- What the body stores for one column group: the codes of the group times its scales. -/
abbrev groupStore (a : Vec Ideal S256x1 .f32) (b : Vec Ideal S256x128 .fp8e4m3) : FVec Ideal S256x128 .bf16 :=
  shapeCast S256x128
    (mulf (extf .bf16 (shapeCast S256x128 b shapeCasts_S256x128_S256x128) bitsLt_fp8e4m3_bf16)
      (broadcastTo S256x128 (truncf .bf16 (shapeCast S256x1 a shapeCasts_S256x1_S256x1) bitsLt_bf16_f32)
        broadcasts_S256x1_S256x128)) shapeCasts_S256x128_S256x128

/-- The store of column group `g`, which starts at column `o = 128 * g`, is a block of `XB`. -/
theorem group_eq (x0 : Vec Ideal S256x12032 .fp8e4m3) (x1 : Vec Ideal S256x94 .f32) (o g : ℕ) (ho : o = 128 * g)
    (h : ∀ a, (![0, o] : Fin 2 → ℕ) a + (![256, 128] : Fin 2 → ℕ) a ≤ S256x12032.size a)
    (h0 : ∀ a, (![0, o] : Fin 2 → ℕ) a + (![256, 128] : Fin 2 → ℕ) a ≤ S256x12032.size a)
    (h1 : ∀ a, (![0, g] : Fin 2 → ℕ) a + (![256, 1] : Fin 2 → ℕ) a ≤ S256x94.size a) (x : S256x128.Idx) :
    groupStore (View.ld (Val := Elt Ideal) (e' := .f32) x1 (Rect.unit (s := S256x94) ![0, g] ![256, 1] h1))
        (View.ld (Val := Elt Ideal) (e' := .fp8e4m3) x0 (Rect.unit (s := S256x12032) ![0, o] ![256, 128] h0)) x
      = XB x0 x1 ((Rect.unit (s := S256x12032) ![0, o] ![256, 128] h).emb x) := by
  obtain ⟨r, k, rfl⟩ : ∃ (r : Fin 256) (k : Fin 128), x = ix2 r k := ⟨x 0, x 1, eq_ix2 x⟩
  have hb : o + 128 ≤ 12032 := h 1
  have hk := k.isLt
  have e : (Rect.unit (s := S256x12032) ![0, o] ![256, 128] h).emb (ix2 r k) = ix2 r ⟨o + k, by omega⟩ := by
    funext a
    apply Fin.ext
    rw [Rect.emb_apply]
    match a with
    | ⟨0, _⟩ => show 0 + 1 * (r : ℕ) = r; omega
    | ⟨1, _⟩ => show o + 1 * (k : ℕ) = o + k; omega
  rw [e]
  pointwise [groupStore, XB]
  rw [show (⟨(o + (k : ℕ)) / 128, _⟩ : Fin 94) = ⟨g, _⟩ from Fin.ext (show (o + (k : ℕ)) / 128 = g by omega)]

/-- A load of a whole buffer after stores that are blocks of `G` and cover it reads `G`. -/
theorem readCov_eq {sig : RefSig} {κ : Kind} {sp : Space} (v : View sig κ sp S256x12032 .bf16)
    (G : S256x12032.Idx → Elt Ideal .bf16) (L : List (View.Piece (Elt Ideal) S256x12032 .bf16))
    (h : ∀ a, (![0, 0] : Fin 2 → ℕ) a + (![256, 12032] : Fin 2 → ℕ) a ≤ S256x12032.size a)
    (hc : ∀ y : S256x12032.Idx, ∃ p ∈ L, y ∈ p.1.set) (hp : View.PiecesOf G L) :
    v.readCov L (Rect.unit (s := S256x12032) ![0, 0] ![256, 12032] h).toLoadRect = G := by
  rw [View.readCov_eq_canon']
  funext j
  have e : (Rect.unit (s := S256x12032) ![0, 0] ![256, 12032] h).toLoadRect.idx j = j := by
    funext a
    apply Fin.ext
    match a with
    | ⟨0, _⟩ => show 0 + 1 * (j 0 : ℕ) = j 0; omega
    | ⟨1, _⟩ => show 0 + 1 * (j 1 : ℕ) = j 1; omega
  rw [e]
  have := View.canon_append_of_piecesOf G [] L hp j (hc j)
  rwa [List.append_nil] at this

set_option maxHeartbeats 2000000 in
/-- The three blocks a grid point stores. -/
theorem outs_eq (c : Dev nD) (t : Fin cfg0.N) : outsAt0 m c t =
    (k0_pay123 (XB (iblk m c 0 t) (iblk m c 1 t)) (iblk m c 2 t) (iblk m c 4 t) (iblk m c 3 t),
     k0_pay128 (k0_pay124 (XB (iblk m c 0 t) (iblk m c 1 t)) (iblk m c 2 t) (iblk m c 4 t) (iblk m c 3 t) (iblk m c 5 t))
       (k0_pay125 (XB (iblk m c 0 t) (iblk m c 1 t)) (iblk m c 2 t) (iblk m c 4 t) (iblk m c 3 t) (iblk m c 5 t)),
     k0_pay127 (k0_pay125 (XB (iblk m c 0 t) (iblk m c 1 t)) (iblk m c 2 t) (iblk m c 4 t) (iblk m c 3 t) (iblk m c 5 t))) := by
  unfold outsAt0
  frame_open
  frame_out
  rw [readCov_eq _ (XB (iblk m c 0 t) (iblk m c 1 t))]
  · intro y
    refine View.cover_of_tiledL _ ![256, 128] (by sl_kernel_rfl) y
  · generalize (iblk m c 0 t : Vec Ideal S256x12032 .fp8e4m3) = x0
    generalize (iblk m c 1 t : Vec Ideal S256x94 .f32) = x1
    repeat
      refine ⟨fun x => ?_, ?_⟩
      · unfold_payloads
        dsimp only
        exact group_eq _ _ _ _ (by norm_num) _ _ _ x
    exact trivial

end Cert.KernelIdeal.Block
-- ==== Proof.Quant.lean ====
module

public import Idealize.ShloMosaic.Lib.Pointwise

/-! The power-of-two scale of one row, as the two programs compute it.

The kernel counts how many of the 256 numbers with the bit patterns `k * 2^23` the row's value `a` reaches; less
one, that is the exponent field of `a` as a binary32 number. The reference takes `⌊log a / log 2⌋ + 1`. Here the two
are shown to give one power of two, for every `a` in `[0, 2^126)`. -/

@[expose] public section

set_option maxRecDepth 16384

noncomputable section

open Idealize.ShloMosaic

namespace Cert.Quant

/-- How many of the 256 thresholds `a` reaches, as the kernel adds it up. -/
def countWord (a : EReal) : BitVec 32 :=
  Finset.fold IntOp.addi (0#32)
    (fun x : Fin 256 => if max a (-a) < Ideal.ofBits FTy.f32 (IntOp.shli ArithUnit.vector (BitVec.ofNat 32 ↑x) 23#32)
      then 0#32 else 1#32) Finset.univ

/-- The scale's exponent as the kernel reads it off that count. -/
def expWord (b : BitVec 32) : BitVec 32 :=
  Scalar.select (IntOp.cmpi CmpIPredicate.eq (IntOp.subi b 1#32) 0#32) (0#32) (IntOp.subi (IntOp.subi b 1#32) 126#32)

/-- The binary32 number whose exponent field is `w` and whose fraction is zero. -/
def powWord (w : BitVec 32) : EReal := Ideal.ofBits FTy.f32 (IntOp.shli ArithUnit.vector w 23#32)

/-- The scale's exponent as the reference states it. -/
def refExp (a : EReal) : EReal :=
  if a < Ideal.ofBits FTy.f32 8388608#32 then 0
  else Ideal.liftRound Int.floor (Ideal.div (Ideal.log a) (Ideal.log (Ideal.ofBits FTy.f32 1073741824#32))) + 1

theorem fields : ∀ k : Fin 256,
    ((IntOp.shli ArithUnit.vector (BitVec.ofNat 32 ↑k) 23#32).extractLsb' 31 1 == 1#1) = false ∧
    ((IntOp.shli ArithUnit.vector (BitVec.ofNat 32 ↑k) 23#32).extractLsb' 23 8).toNat = k ∧
    ((IntOp.shli ArithUnit.vector (BitVec.ofNat 32 ↑k) 23#32).extractLsb' 0 23).toNat = 0 := by
  decide +kernel

/-- A binary32 pattern without sign and fraction, by its exponent field. -/
theorem ofBits_of_fields (b : BitVec 32) (k : ℕ) (h1 : (b.extractLsb' 31 1 == 1#1) = false)
    (h2 : (b.extractLsb' 23 8).toNat = k) (h3 : (b.extractLsb' 0 23).toNat = 0) : Ideal.ofBits FTy.f32 b =
    if k = 255 then ⊤ else if k = 0 then 0 else (((2 : ℝ) ^ ((k : ℤ) - 127) : ℝ) : EReal) := by
  show Ideal.ieee 8 23 b = _
  unfold Ideal.ieee
  simp only [Nat.reduceAdd, h1, h2, h3]
  by_cases c1 : k = 255
  · simp [c1]
  · by_cases c2 : k = 0
    · simp [c2]
    · rw [if_neg (by simpa using c1), if_neg c2, if_neg c1, if_neg c2]
      refine congrArg _ ?_
      have e : (k : ℤ) - 127 = 23 + ((k : ℤ) - 127 - 23) := by ring
      rw [e, zpow_add₀ (by norm_num)]
      norm_num

/-- The threshold numbers: zero, the 254 powers of two from `2^-126` to `2^127`, and infinity. -/
theorem powWord_eq (k : Fin 256) : powWord (BitVec.ofNat 32 ↑k) =
    if (k : ℕ) = 255 then ⊤ else if (k : ℕ) = 0 then 0 else (((2 : ℝ) ^ ((k : ℤ) - 127) : ℝ) : EReal) :=
  ofBits_of_fields _ _ (fields k).1 (fields k).2.1 (fields k).2.2

/-- A count of an initial segment of the thresholds. -/
theorem fold_count (n : Fin 256) :
    Finset.fold IntOp.addi (0#32) (fun x : Fin 256 => if n < x then 0#32 else 1#32) Finset.univ
      = BitVec.ofNat 32 (n + 1) := by
  revert n; decide +kernel

/-- The exponent words that come up, and the exponent fields of the scale and of its inverse. -/
theorem words : ∀ n : Fin 253, 1 ≤ (n : ℕ) →
    IntOp.addi 127#32 (expWord (BitVec.ofNat 32 (n + 1))) = BitVec.ofNat 32 (n + 1) ∧
    IntOp.subi 127#32 (expWord (BitVec.ofNat 32 (n + 1))) = BitVec.ofNat 32 (253 - n) := by
  decide +kernel

theorem words_zero : IntOp.addi 127#32 (expWord (BitVec.ofNat 32 (0 + 1))) = BitVec.ofNat 32 127 ∧
    IntOp.subi 127#32 (expWord (BitVec.ofNat 32 (0 + 1))) = BitVec.ofNat 32 127 := by
  decide +kernel

theorem small_eq : Ideal.ofBits FTy.f32 8388608#32 = (((2 : ℝ) ^ (-126 : ℤ) : ℝ) : EReal) := by
  simp [Ideal.ofBits, Ideal.ieee, -EReal.coe_mul]; norm_num

theorem two_eq : Ideal.ofBits FTy.f32 1073741824#32 = ((2 : ℝ) : EReal) := by
  simp [Ideal.ofBits, Ideal.ieee, -EReal.coe_mul]; norm_num

/-- A number below `2^-126` reaches the first threshold alone. -/
theorem countWord_small (x : ℝ) (h0 : 0 ≤ x) (hx : x < (2 : ℝ) ^ (-126 : ℤ)) :
    countWord (x : EReal) = BitVec.ofNat 32 (0 + 1) := by
  unfold countWord
  rw [← show _ = BitVec.ofNat 32 (0 + 1) from fold_count 0]
  congr 1
  funext k
  rw [max_eq_left (by rw [← EReal.coe_neg]; exact_mod_cast (by linarith : -x ≤ x))]
  rw [show Ideal.ofBits FTy.f32 (IntOp.shli ArithUnit.vector (BitVec.ofNat 32 ↑k) 23#32) = _ from powWord_eq k]
  refine if_congr ?_ rfl rfl
  rw [Fin.lt_def]
  split_ifs with h1 h2
  · simp [h1, EReal.coe_lt_top]
  · simp [h2, h0]
  · refine ⟨fun _ => Nat.pos_of_ne_zero h2, fun _ => ?_⟩
    refine EReal.coe_lt_coe_iff.2 (hx.trans_le (zpow_le_zpow_right₀ (by norm_num) ?_))
    have := Nat.pos_of_ne_zero h2
    omega

/-- A number from `2^(n-127)` up to twice that reaches the thresholds `0 … n`. -/
theorem countWord_normal (x : ℝ) (n : Fin 253) (hn : 1 ≤ (n : ℕ)) (hl : (2 : ℝ) ^ ((n : ℤ) - 127) ≤ x)
    (hu : x < (2 : ℝ) ^ ((n : ℤ) - 126)) : countWord (x : EReal) = BitVec.ofNat 32 (n + 1) := by
  have h0 : 0 < x := lt_of_lt_of_le (by positivity) hl
  unfold countWord
  rw [← show _ = BitVec.ofNat 32 ((n : ℕ) + 1) from fold_count ⟨n, by omega⟩]
  congr 1
  funext k
  rw [max_eq_left (by rw [← EReal.coe_neg]; exact_mod_cast (by linarith : -x ≤ x))]
  rw [show Ideal.ofBits FTy.f32 (IntOp.shli ArithUnit.vector (BitVec.ofNat 32 ↑k) 23#32) = _ from powWord_eq k]
  refine if_congr ?_ rfl rfl
  rw [Fin.lt_def]
  have hn' := n.isLt
  split_ifs with h1 h2
  · simp only [EReal.coe_lt_top, true_iff]; omega
  · simp only [h2, not_lt_zero', iff_false, not_lt]; exact_mod_cast h0.le
  · rw [EReal.coe_lt_coe_iff]
    constructor
    · intro h
      by_contra hc
      exact absurd (hl.trans_lt h) (not_lt.2 (zpow_le_zpow_right₀ (by norm_num) (by simp only at hc; omega)))
    · intro h
      exact hu.trans_le (zpow_le_zpow_right₀ (by norm_num) (by simp only at h; omega))

theorem refExp_small (x : ℝ) (hx : x < (2 : ℝ) ^ (-126 : ℤ)) : refExp (x : EReal) = 0 := by
  unfold refExp; rw [small_eq, if_pos (EReal.coe_lt_coe_iff.2 hx)]

theorem refExp_normal (x : ℝ) (hx : (2 : ℝ) ^ (-126 : ℤ) ≤ x) (j : ℤ) (hlo : (2 : ℝ) ^ j ≤ x)
    (hhi : x < (2 : ℝ) ^ (j + 1)) : refExp (x : EReal) = (((j + 1 : ℤ) : ℝ) : EReal) := by
  have h0 : 0 < x := lt_of_lt_of_le (by positivity) hx
  have hl : 0 < Real.log 2 := Real.log_pos (by norm_num)
  have hf : Int.floor (Real.log x * (Real.log 2)⁻¹) = j := by
    rw [Int.floor_eq_iff, ← div_eq_mul_inv, le_div_iff₀ hl, div_lt_iff₀ hl, ← Real.log_zpow,
      show (j : ℝ) + 1 = ((j + 1 : ℤ) : ℝ) by push_cast; rfl, ← Real.log_zpow]
    exact ⟨Real.log_le_log (by positivity) hlo, Real.log_lt_log h0 hhi⟩
  have hlog : ∀ y : ℝ, 0 < y → Ideal.log (y : EReal) = ((Real.log y : ℝ) : EReal) := fun y hy => if_neg (not_le.2 hy)
  unfold refExp
  rw [small_eq, if_neg (not_lt.2 (EReal.coe_le_coe_iff.2 hx)), two_eq, hlog x h0, hlog 2 (by norm_num)]
  unfold Ideal.div
  rw [if_neg (by exact_mod_cast hl.ne'), ← EReal.coe_inv, ← EReal.coe_mul]
  show (((Int.floor (Real.log x * (Real.log 2)⁻¹) : ℤ) : ℝ) : EReal) + 1 = _
  rw [hf]
  push_cast
  rfl

/-- The kernel's scale and inverse scale are the reference's `2^e` and `2^-e`. -/
theorem scale_eq (a : EReal) (h0 : 0 ≤ a) (h1 : a < (((2 : ℝ) ^ (126 : ℤ) : ℝ) : EReal)) :
    powWord (IntOp.addi 127#32 (expWord (countWord a))) = Ideal.exp2 (refExp a) ∧
    powWord (IntOp.subi 127#32 (expWord (countWord a))) = Ideal.exp2 (0 - refExp a) := by
  obtain ⟨x, rfl⟩ : ∃ x : ℝ, a = (x : EReal) :=
    ⟨a.toReal, (EReal.coe_toReal h1.ne_top (ne_of_gt (lt_of_lt_of_le EReal.bot_lt_zero h0))).symm⟩
  have h0 : 0 ≤ x := by exact_mod_cast h0
  have h1 : x < (2 : ℝ) ^ (126 : ℤ) := EReal.coe_lt_coe_iff.1 h1
  rcases lt_or_ge x ((2 : ℝ) ^ (-126 : ℤ)) with hx | hx
  · rw [countWord_small x h0 hx, refExp_small x hx, words_zero.1, words_zero.2,
      show powWord (BitVec.ofNat 32 127) = _ from powWord_eq ⟨127, by omega⟩]
    have : Ideal.exp2 0 = 1 := by
      show ((Real.rpow 2 0 : ℝ) : EReal) = 1
      simp
    simp [this]
  · have hpos : 0 < x := lt_of_lt_of_le (by positivity) hx
    obtain ⟨j, hlo, hhi⟩ := exists_mem_Ico_zpow hpos (by norm_num : (1 : ℝ) < 2)
    rw [refExp_normal x hx j hlo hhi]
    have hj1 : -126 ≤ j := by
      by_contra hc
      exact absurd (hx.trans_lt hhi) (not_lt.2 (zpow_le_zpow_right₀ (by norm_num) (by omega)))
    have hj2 : j ≤ 125 := by
      by_contra hc
      exact absurd (hlo.trans_lt h1) (not_lt.2 (zpow_le_zpow_right₀ (by norm_num) (by omega)))
    obtain ⟨n, hn⟩ : ∃ n : ℕ, (n : ℤ) = j + 127 := ⟨(j + 127).toNat, by omega⟩
    have hn1 : 1 ≤ n := by omega
    have hn2 : n < 253 := by omega
    rw [countWord_normal x ⟨n, hn2⟩ hn1 (by rw [show ((⟨n, hn2⟩ : Fin 253) : ℤ) - 127 = j by simp; omega]; exact hlo)
      (by rw [show ((⟨n, hn2⟩ : Fin 253) : ℤ) - 126 = j + 1 by simp; omega]; exact hhi)]
    obtain ⟨w1, w2⟩ := words ⟨n, hn2⟩ hn1
    rw [w1, w2, show powWord (BitVec.ofNat 32 (n + 1)) = _ from powWord_eq ⟨n + 1, by omega⟩,
      show powWord (BitVec.ofNat 32 (253 - n)) = _ from powWord_eq ⟨253 - n, by omega⟩]
    have e1 : ∀ z : ℤ, Ideal.exp2 (((z : ℝ)) : EReal) = (((2 : ℝ) ^ z : ℝ) : EReal) := fun z => by
      show ((Real.rpow 2 (z : ℝ) : ℝ) : EReal) = _
      exact congrArg _ (Real.rpow_intCast 2 z)
    constructor
    · rw [e1, if_neg (by simp; omega), if_neg (by simp)]
      congr 2
      simp; omega
    · rw [show (0 : EReal) - (((j + 1 : ℤ) : ℝ) : EReal) = (((-(j + 1) : ℤ) : ℝ) : EReal) by
        rw [zero_sub, ← EReal.coe_neg]; push_cast; rfl, e1, if_neg (by simp; omega), if_neg (by simp; omega)]
      congr 2
      simp; omega

end Cert.Quant
-- ==== Proof.Row.lean ====
module

public import proofs.«01_k».proof.Proof.Quant

/-! One row of the result, and why its scale stays in range.

A row `h` is normalized to `n l = h l * rsqrt (mean of h² + eps) * γ l`; the scale is taken from the row's largest
`|n l|`. The normalized row is bounded by the weights `γ` alone: `h l ^ 2` is at most 2176 times the mean, so that
`|h l| * rsqrt (mean + eps)` is at most 48. A row with an infinite entry has an infinite mean, and is normalized to
zero. So finite weights give a scale below `2^126`. -/

@[expose] public section

noncomputable section

open Idealize.ShloMosaic

namespace Cert.Row

/-- The mean of the squares, plus epsilon. -/
def var (h : Fin 2176 → EReal) : EReal :=
  Ideal.div (∑ x, h x * h x) (Ideal.ofBits FTy.f32 1158152192#32) + Ideal.ofBits FTy.f32 925353388#32

/-- The normalized row. -/
def norm (h γ : Fin 2176 → EReal) (l : Fin 2176) : EReal := h l * Ideal.rsqrt (var h) * γ l

/-- The row's largest magnitude over 448, the number the scale is taken from. -/
def amax (n : Fin 2176 → EReal) : EReal :=
  Finset.fold max (Ideal.ofBits FTy.f32 4286578688#32) (fun x => max (n x) (-(n x))) Finset.univ
    * Ideal.ofBits FTy.f32 991054117#32

theorem width_eq : Ideal.ofBits FTy.f32 1158152192#32 = ((2176 : ℝ) : EReal) := by
  simp [Ideal.ofBits, Ideal.ieee, -EReal.coe_mul]
  norm_num

theorem eps_eq : Ideal.ofBits FTy.f32 925353388#32 = (((10995116 : ℝ) / 2 ^ 40 : ℝ) : EReal) := by
  simp [Ideal.ofBits, Ideal.ieee, -EReal.coe_mul]; norm_num

theorem recip_eq : Ideal.ofBits FTy.f32 991054117#32 = (((9586981 : ℝ) / 2 ^ 32 : ℝ) : EReal) := by
  simp [Ideal.ofBits, Ideal.ieee, -EReal.coe_mul]; norm_num

theorem start_eq : Ideal.ofBits FTy.f32 4286578688#32 = ⊥ := by
  simp [Ideal.ofBits, Ideal.ieee]

theorem large_eq : Ideal.ofBits FTy.bf16 0x7F7F#16 = (((255 : ℝ) * 2 ^ 120 : ℝ) : EReal) := by
  simp [Ideal.ofBits, Ideal.ieee]

/-- A square is not negative, infinities included. -/
theorem sq_nonneg (x : EReal) : 0 ≤ x * x := by
  induction x using EReal.rec with
  | bot => simp
  | coe r => rw [← EReal.coe_mul]; exact_mod_cast mul_self_nonneg r
  | top => simp

/-- An infinite entry makes the variance infinite. -/
theorem var_top (h : Fin 2176 → EReal) (l : Fin 2176) (hl : h l * h l = ⊤) : var h = ⊤ := by
  have e : ∑ x, h x * h x = ⊤ := by
    refine top_le_iff.1 ?_
    rw [← hl]
    exact Finset.single_le_sum (f := fun x => h x * h x) (fun x _ => sq_nonneg (h x)) (Finset.mem_univ l)
  unfold var
  rw [e, width_eq, eps_eq]
  have : Ideal.div ⊤ ((2176 : ℝ) : EReal) = ⊤ := by
    unfold Ideal.div
    rw [if_neg (by norm_num), ← EReal.coe_inv]
    exact EReal.top_mul_coe_of_pos (by norm_num)
  rw [this]
  rfl

theorem var_coe (f : Fin 2176 → ℝ) : var (fun l => (f l : EReal))
    = (((∑ x, f x * f x) * (2176 : ℝ)⁻¹ + 10995116 / 2 ^ 40 : ℝ) : EReal) := by
  unfold var
  have e : ∑ x, (f x : EReal) * (f x : EReal) = ((∑ x, f x * f x : ℝ) : EReal) := by
    have : ∀ s : Finset (Fin 2176), ∑ x ∈ s, (f x : EReal) * (f x : EReal) = ((∑ x ∈ s, f x * f x : ℝ) : EReal) := by
      intro s
      induction s using Finset.cons_induction with
      | empty => simp
      | cons a s ha ih => rw [Finset.sum_cons, Finset.sum_cons, ih, EReal.coe_add, EReal.coe_mul]
    exact this _
  rw [e, width_eq, eps_eq]
  unfold Ideal.div
  rw [if_neg (by norm_num), ← EReal.coe_inv, ← EReal.coe_mul, ← EReal.coe_add]

/-- An entry of a finite row over the root of the row's variance. -/
theorem ratio_le (f : Fin 2176 → ℝ) (l : Fin 2176) :
    |f l * (Real.sqrt ((∑ x, f x * f x) * (2176 : ℝ)⁻¹ + 10995116 / 2 ^ 40))⁻¹| ≤ 48 := by
  have h1 : f l * f l ≤ ∑ x, f x * f x :=
    Finset.single_le_sum (f := fun x => f x * f x) (fun x _ => mul_self_nonneg (f x)) (Finset.mem_univ l)
  generalize ∑ x, f x * f x = S at h1
  have h0 : 0 ≤ f l * f l := mul_self_nonneg _
  have ht : 0 < S * (2176 : ℝ)⁻¹ + 10995116 / 2 ^ 40 := by
    have : 0 ≤ S * (2176 : ℝ)⁻¹ := mul_nonneg (h0.trans h1) (by norm_num)
    linarith [show (0 : ℝ) < 10995116 / 2 ^ 40 by norm_num]
  rw [abs_mul, abs_of_pos (inv_pos.2 (Real.sqrt_pos.2 ht)), ← div_eq_mul_inv, div_le_iff₀ (Real.sqrt_pos.2 ht)]
  refine abs_le_of_sq_le_sq' ?_ (by positivity) |> abs_le.2
  rw [mul_pow, Real.sq_sqrt ht.le, pow_two]
  linarith [show (0 : ℝ) < 10995116 / 2 ^ 40 by norm_num]

/-- A normalized entry is at most 48 times the largest bfloat16 number, if the weights are finite. -/
theorem norm_le (h γ : Fin 2176 → EReal) (hγ : ∀ l, max (γ l) (-(γ l)) ≤ Ideal.ofBits FTy.bf16 0x7F7F#16) (l : Fin 2176) :
    max (norm h γ l) (-(norm h γ l)) ≤ ((48 * (255 * 2 ^ 120) : ℝ) : EReal) := by
  have hz : max (0 : EReal) (-0) ≤ ((48 * (255 * 2 ^ 120) : ℝ) : EReal) := by
    rw [neg_zero, max_self]; exact_mod_cast (by positivity : (0 : ℝ) ≤ 48 * (255 * 2 ^ 120))
  by_cases hr : ∀ l, ∃ r : ℝ, h l = (r : EReal)
  · choose f hf using hr
    have hh : h = fun l => (f l : EReal) := funext hf
    have hg := hγ l
    rw [large_eq] at hg
    obtain ⟨g, hgl⟩ : ∃ g : ℝ, γ l = (g : EReal) := by
      generalize γ l = x at hg
      induction x using EReal.rec with
      | bot => exact absurd (top_le_iff.1 ((le_max_right _ _).trans hg)) (EReal.coe_ne_top _)
      | coe r => exact ⟨r, rfl⟩
      | top => exact absurd (top_le_iff.1 ((le_max_left _ _).trans hg)) (EReal.coe_ne_top _)
    have hg' : |g| ≤ 255 * 2 ^ 120 := by
      rw [hgl, ← EReal.coe_neg, max_le_iff, EReal.coe_le_coe_iff, EReal.coe_le_coe_iff] at hg
      exact abs_le.2 ⟨by linarith [hg.2], hg.1⟩
    unfold norm
    rw [hh, var_coe, hgl]
    have hx := ratio_le f l
    have ht : 0 < (∑ x, f x * f x) * (2176 : ℝ)⁻¹ + 10995116 / 2 ^ 40 := by
      have : 0 ≤ ∑ x, f x * f x := Finset.sum_nonneg fun x _ => mul_self_nonneg (f x)
      have : 0 ≤ (∑ x, f x * f x) * (2176 : ℝ)⁻¹ := by positivity
      linarith [show (0 : ℝ) < 10995116 / 2 ^ 40 by norm_num]
    generalize (∑ x, f x * f x) * (2176 : ℝ)⁻¹ + 10995116 / 2 ^ 40 = t at hx ht
    rw [Ideal.rsqrt_coe, if_neg (not_lt.2 ht.le), if_neg ht.ne', ← EReal.coe_mul, ← EReal.coe_mul, ← EReal.coe_neg,
      max_le_iff, EReal.coe_le_coe_iff, EReal.coe_le_coe_iff]
    have hm : |f l * (Real.sqrt t)⁻¹ * g| ≤ 48 * (255 * 2 ^ 120) := by
      rw [abs_mul]
      exact mul_le_mul hx hg' (abs_nonneg _) (by norm_num)
    exact ⟨(le_abs_self _).trans hm, (neg_le_abs _).trans hm⟩
  · push Not at hr
    obtain ⟨i, hi⟩ := hr
    have hv : var h = ⊤ := by
      refine var_top h i ?_
      generalize h i = x at hi
      induction x using EReal.rec with
      | bot => rfl
      | coe r => exact absurd rfl (hi r)
      | top => rfl
    unfold norm
    rw [hv, Ideal.rsqrt_top, mul_zero, zero_mul]
    exact hz

/-- The largest magnitude is not negative. -/
theorem amax_nonneg (n : Fin 2176 → EReal) : 0 ≤ amax n := by
  unfold amax
  rw [recip_eq]
  refine mul_nonneg ?_ (by exact_mod_cast (by positivity : (0 : ℝ) ≤ 9586981 / 2 ^ 32))
  have h0 : (0 : EReal) ≤ max (n 0) (-(n 0)) := by
    rcases le_total 0 (n 0) with h | h
    · exact le_max_of_le_left h
    · exact le_max_of_le_right (by simpa using EReal.neg_le_neg_iff.2 h)
  exact (Finset.le_fold_max _).2 (Or.inr ⟨0, Finset.mem_univ _, h0⟩)

/-- Finite weights keep the number the scale is taken from below `2^126`. -/
theorem amax_lt (h γ : Fin 2176 → EReal) (hγ : ∀ l, max (γ l) (-(γ l)) ≤ Ideal.ofBits FTy.bf16 0x7F7F#16) :
    amax (norm h γ) < (((2 : ℝ) ^ (126 : ℤ) : ℝ) : EReal) := by
  unfold amax
  rw [recip_eq, start_eq]
  have hb : Finset.fold max ⊥ (fun x => max (norm h γ x) (-(norm h γ x))) Finset.univ
      ≤ ((48 * (255 * 2 ^ 120) : ℝ) : EReal) :=
    Finset.fold_max_le _ |>.2 ⟨bot_le, fun x _ => norm_le h γ hγ x⟩
  have hc : (0 : EReal) ≤ (((9586981 : ℝ) / 2 ^ 32 : ℝ) : EReal) := by
    exact_mod_cast (by positivity : (0 : ℝ) ≤ 9586981 / 2 ^ 32)
  refine lt_of_le_of_lt (mul_le_mul_of_nonneg_right hb hc) ?_
  rw [← EReal.coe_mul, EReal.coe_lt_coe_iff]
  norm_num

/-- The two ways to take the scale agree on every row that is normalized with finite weights. -/
theorem scale_eq (h γ : Fin 2176 → EReal) (hγ : ∀ l, max (γ l) (-(γ l)) ≤ Ideal.ofBits FTy.bf16 0x7F7F#16) :
    Quant.powWord (IntOp.addi 127#32 (Quant.expWord (Quant.countWord (amax (norm h γ)))))
      = Ideal.exp2 (Quant.refExp (amax (norm h γ))) ∧
    Quant.powWord (IntOp.subi 127#32 (Quant.expWord (Quant.countWord (amax (norm h γ)))))
      = Ideal.exp2 (0 - Quant.refExp (amax (norm h γ))) :=
  Quant.scale_eq _ (amax_nonneg _) (amax_lt h γ hγ)

end Cert.Row

end
-- ==== Proof.Spec.lean ====
module

public import proofs.«01_k».proof.Proof.Row

/-! The two row expressions over the argument arrays that both programs are brought to.

Row `R` of a result is token `R % 2048` of sequence `R / 2048`. -/

@[expose] public section

noncomputable section

open Idealize.ShloMosaic

namespace Cert.Spec

abbrev SX : Shape := ⟨3, ![4, 2048, 12032]⟩
abbrev SS : Shape := ⟨3, ![4, 2048, 94]⟩
abbrev SW : Shape := ⟨2, ![12032, 2176]⟩
abbrev SH : Shape := ⟨3, ![4, 2048, 2176]⟩
abbrev SG : Shape := ⟨1, ![2176]⟩

/-- The sequence of result row `R`. -/
abbrev bat (R : Fin 8192) : Fin 4 := ⟨R.val / 2048, by omega⟩

/-- The token of result row `R`. -/
abbrev tok (R : Fin 8192) : Fin 2048 := ⟨R.val % 2048, by omega⟩

/-- The group of 128 columns that shares a scale. -/
abbrev grp (k : Fin 12032) : Fin 94 := ⟨k.val / 128, by omega⟩

/-- The new hidden state: the residual plus the dequantized product. -/
def hid (x : FVec Ideal SX .fp8e4m3) (s : FVec Ideal SS .f32) (w : FVec Ideal SW .fp8e4m3) (ws : FVec Ideal SG .f32)
    (res : FVec Ideal SH .bf16) (R : Fin 8192) (l : Fin 2176) : EReal :=
  (show EReal from res (ix3 (bat R) (tok R) l))
    + (∑ k : Fin 12032, ((show EReal from x (ix3 (bat R) (tok R) k)) * (show EReal from s (ix3 (bat R) (tok R) (grp k))))
        * (show EReal from w (ix2 k l))) * (show EReal from ws (ix1 l))

/-- The normalized hidden state. -/
def nrm (x : FVec Ideal SX .fp8e4m3) (s : FVec Ideal SS .f32) (w : FVec Ideal SW .fp8e4m3) (ws : FVec Ideal SG .f32)
    (res : FVec Ideal SH .bf16) (g : FVec Ideal SG .bf16) (R : Fin 8192) : Fin 2176 → EReal :=
  Row.norm (hid x s w ws res R) fun l => (show EReal from g (ix1 l))

end Cert.Spec

end
-- ==== Proof.KernelHid.lean ====
module

public import proofs.«01_k».proof.Proof.Block
public import proofs.«01_k».proof.Proof.Spec

/-! The hidden state that one grid point stores, over the kernel's arguments. -/

@[expose] public section

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Block

variable (m : (ℓ : Loc nD τ sig) → Buf (Elt Ideal) ℓ)

/-- Every grid point takes its own block of rows, and the whole of the weights. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0]
    ∧ win0_6.index t = ![t.val, 0] ∧ win0_7.index t = ![t.val, 0] ∧ win0_8.index t = ![t.val, 0] :=
  (by decide +kernel : ∀ t : Fin grid0.N, _)

/-- Result row of block row `r` at point `t`. -/
abbrev row (t : Fin cfg0.N) (r : Fin 256) : Fin 8192 := ⟨256 * t.val + r.val, by
  have h : t.val < 32 := t.isLt
  omega⟩

/-- The hidden state over the arguments. -/
abbrev H (c : Dev nD) : Fin 8192 → Fin 2176 → EReal :=
  Spec.hid (m ((c : Thread nD τ).loc main_arg0)) (m ((c : Thread nD τ).loc main_arg1))
    (m ((c : Thread nD τ).loc main_arg2)) (m ((c : Thread nD τ).loc main_arg3)) (m ((c : Thread nD τ).loc main_arg4))

/-- The stored block of the hidden state. -/
theorem hid_at (c : Dev nD) (t : Fin cfg0.N) (r : Fin 256) (l : Fin 2176) :
    k0_pay123 (XB (iblk m c 0 t) (iblk m c 1 t)) (iblk m c 2 t) (iblk m c 4 t) (iblk m c 3 t) (ix2 r l)
      = H m c (row t r) l := by
  pointwise [k0_pay123, XB, H, Spec.hid]
  blk_point [iblk, V, idx t]

end Cert.KernelIdeal.Arr

end
-- ==== Proof.KernelPay.lean ====
module

public import proofs.«01_k».proof.Proof.Gen.KernelIdeal.Value
public import proofs.«01_k».proof.Proof.Row
public import Idealize.ShloMosaic.Lib.Pipeline.ValueKit

/-! The kernel's arithmetic after the product, one row at a time. -/

@[expose] public section

set_option maxRecDepth 16384

noncomputable section

open Idealize.ShloMosaic Idealize.ShloMosaic.TcCoe Idealize.SL.Sem

namespace Cert.KernelIdeal.Pay

open Cert.KernelIdeal Cert.KernelIdeal.Gen

/-- The exponent word of row `r`, whose magnitudes are `v`. -/
theorem word_at (v : FVec Ideal S256x2176 .f32) (n : Fin 2176 → EReal) (r : Fin 256)
    (h : ∀ l, (show EReal from v (ix2 r l)) = max (n l) (-(n l))) :
    k0_pay126 v (ix2 r 0) = Quant.expWord (Quant.countWord (Row.amax n)) := by
  have e : k0_pay126 v (ix2 r 0) = Quant.expWord (Quant.countWord
      (Finset.fold max (Ideal.ofBits FTy.f32 4286578688#32) (fun x => (show EReal from v (ix2 r x))) Finset.univ
        * Ideal.ofBits FTy.f32 991054117#32)) := by
    pointwise [k0_pay126]
    rfl
  rw [e, funext h]
  rfl

/-- The stored scale of row `r`. -/
theorem scale_at (v : FVec Ideal S256x2176 .f32) (n : Fin 2176 → EReal) (r : Fin 256)
    (h : ∀ l, (show EReal from v (ix2 r l)) = max (n l) (-(n l))) :
    (show EReal from k0_pay127 v (ix2 r 0))
      = Quant.powWord (IntOp.addi 127#32 (Quant.expWord (Quant.countWord (Row.amax n)))) := by
  have e : (show EReal from k0_pay127 v (ix2 r 0)) = Quant.powWord (IntOp.addi 127#32 (k0_pay126 v (ix2 r 0))) := by
    pointwise [k0_pay127]
    rfl
  rw [e, word_at v n r h]

/-- The stored codes of row `r`. -/
theorem code_at (u v : FVec Ideal S256x2176 .f32) (n : Fin 2176 → EReal) (r : Fin 256) (l : Fin 2176)
    (hu : (show EReal from u (ix2 r l)) = n l) (h : ∀ l, (show EReal from v (ix2 r l)) = max (n l) (-(n l))) :
    (show EReal from k0_pay128 u v (ix2 r l)) = min (Ideal.ofBits FTy.f32 1138753536#32)
      (max (Ideal.ofBits FTy.f32 3286237184#32)
        (n l * Quant.powWord (IntOp.subi 127#32 (Quant.expWord (Quant.countWord (Row.amax n)))))) := by
  have e : (show EReal from k0_pay128 u v (ix2 r l)) = min (Ideal.ofBits FTy.f32 1138753536#32)
      (max (Ideal.ofBits FTy.f32 3286237184#32)
        ((show EReal from u (ix2 r l)) * Quant.powWord (IntOp.subi 127#32 (k0_pay126 v (ix2 r 0))))) := by
    pointwise [k0_pay128]
    rfl
  rw [e, word_at v n r h, hu]

/-- The normalized row, from the hidden state's row `n`. -/
theorem norm_at (v0 : Vec Ideal S256x12032 .bf16) (v1 : Vec Ideal S12032x2176 .fp8e4m3) (v2 : Vec Ideal S256x2176 .bf16)
    (v3 : Vec Ideal S1x2176 .f32) (v4 : Vec Ideal S1x2176 .bf16) (n g : Fin 2176 → EReal) (r : Fin 256) (l : Fin 2176)
    (h : ∀ l, (show EReal from k0_pay123 v0 v1 v2 v3 (ix2 r l)) = n l)
    (hg : ∀ l, (show EReal from v4 (ix2 0 l)) = g l) :
    (show EReal from k0_pay124 v0 v1 v2 v3 v4 (ix2 r l)) = Row.norm n g l := by
  have e : (show EReal from k0_pay124 v0 v1 v2 v3 v4 (ix2 r l))
      = Row.norm (fun l => (show EReal from k0_pay123 v0 v1 v2 v3 (ix2 r l))) (fun l => (show EReal from v4 (ix2 0 l))) l := by
    pointwise [k0_pay124]
    rfl
  rw [e, funext h, funext hg]

end Cert.KernelIdeal.Pay

end
-- ==== Proof.KernelArr.lean ====
module

public import proofs.«01_k».proof.Proof.KernelHid
public import proofs.«01_k».proof.Proof.KernelPay

/-! The kernel's three result arrays over the arguments. -/

@[expose] public section

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Block

variable (m : (ℓ : Loc nD τ sig) → Buf (Elt Ideal) ℓ)

/-- The normalized hidden state over the arguments. -/
abbrev N (c : Dev nD) : Fin 8192 → Fin 2176 → EReal :=
  Spec.nrm (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The weights' block is the weights. -/
theorem gamma_at (c : Dev nD) (t : Fin cfg0.N) (l : Fin 2176) :
    (iblk m c 5 t : Vec Ideal S1x2176 .bf16) (ix2 0 l) = m ((c : Thread nD τ).loc main_arg5) (ix1 l) := by
  blk_point [iblk, V, idx t]

/-- The normalized rows of one grid point. -/
theorem norm_at (c : Dev nD) (t : Fin cfg0.N) (r : Fin 256) (l : Fin 2176) :
    (show EReal from k0_pay124 (XB (iblk m c 0 t) (iblk m c 1 t)) (iblk m c 2 t) (iblk m c 4 t) (iblk m c 3 t)
      (iblk m c 5 t) (ix2 r l)) = N m c (row t r) l :=
  Pay.norm_at _ _ _ _ _ (H m c (row t r)) _ r l (fun l => hid_at m c t r l) (fun l => gamma_at m c t l)

/-- Their magnitudes. -/
theorem abs_at (c : Dev nD) (t : Fin cfg0.N) (r : Fin 256) (l : Fin 2176) :
    (show EReal from k0_pay125 (XB (iblk m c 0 t) (iblk m c 1 t)) (iblk m c 2 t) (iblk m c 4 t) (iblk m c 3 t)
      (iblk m c 5 t) (ix2 r l)) = max (N m c (row t r) l) (-(N m c (row t r) l)) := by
  rw [← norm_at m c t r l]
  rfl

/-- The first result is the hidden state. -/
theorem final6 (c : Dev nD) : (dats m 0 c).arrAt 6 cfg0.N = fun i => H m c (i 0) (i 1) := by
  refine (dats m 0 c).arrAt_eq_of_covers 6 _ (by decide +kernel) fun t hf y => ?_
  have e0 : ((((cfg0.win 6).blk t).view.emb y 0 : Fin 8192)) = row t (y 0) :=
    Fin.ext (by blk_simp [idx t]; exact congrArg (· + (y 0).val) (Nat.mul_comm _ _))
  have e1 : ((((cfg0.win 6).blk t).view.emb y 1 : Fin 2176)) = y 1 := Fin.ext (by blk_simp [idx t])
  dsimp only
  rw [e0, e1]
  blk_simp
  rw [after0_6, outs_eq]
  dsimp only
  have hy : (y : S256x2176.Idx) = ix2 (y 0) (y 1) := eq_ix2 _
  refine (congrArg _ hy).trans ?_
  exact hid_at m c t (y 0) (y 1)

/-- The second result is the codes. -/
theorem final7 (c : Dev nD) : (dats m 0 c).arrAt 7 cfg0.N = fun i =>
    min (Ideal.ofBits FTy.f32 1138753536#32) (max (Ideal.ofBits FTy.f32 3286237184#32)
      (N m c (i 0) (i 1) * Quant.powWord (IntOp.subi 127#32 (Quant.expWord (Quant.countWord (Row.amax (N m c (i 0)))))))) := by
  refine (dats m 0 c).arrAt_eq_of_covers 7 _ (by decide +kernel) fun t hf y => ?_
  have e0 : ((((cfg0.win 7).blk t).view.emb y 0 : Fin 8192)) = row t (y 0) :=
    Fin.ext (by blk_simp [idx t]; exact congrArg (· + (y 0).val) (Nat.mul_comm _ _))
  have e1 : ((((cfg0.win 7).blk t).view.emb y 1 : Fin 2176)) = y 1 := Fin.ext (by blk_simp [idx t])
  dsimp only
  rw [e0, e1]
  blk_simp
  rw [after0_7, outs_eq]
  dsimp only
  have hy : (y : S256x2176.Idx) = ix2 (y 0) (y 1) := eq_ix2 _
  refine (congrArg _ hy).trans ?_
  exact Pay.code_at _ _ (N m c (row t (y 0))) (y 0) (y 1) (norm_at m c t _ _) (abs_at m c t _)

/-- The third result is the scales. -/
theorem final8 (c : Dev nD) : (dats m 0 c).arrAt 8 cfg0.N = fun i =>
    Quant.powWord (IntOp.addi 127#32 (Quant.expWord (Quant.countWord (Row.amax (N m c (i 0)))))) := by
  refine (dats m 0 c).arrAt_eq_of_covers 8 _ (by decide +kernel) fun t hf y => ?_
  have e0 : ((((cfg0.win 8).blk t).view.emb y 0 : Fin 8192)) = row t (y 0) :=
    Fin.ext (by blk_simp [idx t]; exact congrArg (· + (y 0).val) (Nat.mul_comm _ _))
  dsimp only
  rw [e0]
  blk_simp
  rw [after0_8, outs_eq]
  dsimp only
  have hy : (y : S256x1.Idx) = ix2 (y 0) 0 := (eq_ix2 _).trans (congrArg (ix2 (y 0)) (Subsingleton.elim (α := Fin 1) _ _))
  refine (congrArg _ hy).trans ?_
  exact Pay.scale_at _ (N m c (row t (y 0))) (y 0) (abs_at m c t _)

end Cert.KernelIdeal.Arr

end
-- ==== Proof.RefPay.lean ====
module

public import proofs.«01_k».proof.Proof.Gen.ReferenceIdeal.Value
public import proofs.«01_k».proof.Proof.Row
public import Idealize.ShloMosaic.Lib.Pipeline.ValueKit

/-! The reference's arithmetic after the product, one row at a time. -/

@[expose] public section

set_option maxRecDepth 16384

noncomputable section

open Idealize.ShloMosaic Idealize.ShloMosaic.TcCoe Idealize.SL.Sem

namespace Cert.ReferenceIdeal.Pay

open Cert.ReferenceIdeal Cert.ReferenceIdeal.Gen

/-- The exponent of row `R`, whose number the scale is taken from is `a`. -/
theorem exp_at (v w : FVec Ideal S8192x1 .f32) (R : Fin 8192)
    (hw : (show EReal from w (ix2 R 0)) = Ideal.log (show EReal from v (ix2 R 0))) :
    (show EReal from k0_pay1 v w (k0_pay8 (F := Ideal)) (ix2 R 0)) = Quant.refExp (show EReal from v (ix2 R 0)) := by
  have e : (show EReal from k0_pay1 v w (k0_pay8 (F := Ideal)) (ix2 R 0))
      = if (show EReal from v (ix2 R 0)) < Ideal.ofBits FTy.f32 8388608#32 then 0
        else Ideal.liftRound Int.floor (Ideal.div (show EReal from w (ix2 R 0)) (Ideal.log (Ideal.ofBits FTy.f32 1073741824#32))) + 1 := by
    pointwise [k0_pay1, k0_pay8]
  rw [e, hw]
  rfl

/-- The stored scale of row `R`. -/
theorem scale_at (v w : FVec Ideal S8192x1 .f32) (R : Fin 8192)
    (hw : (show EReal from w (ix2 R 0)) = Ideal.log (show EReal from v (ix2 R 0))) :
    (show EReal from k0_pay3 v w (k0_pay8 (F := Ideal)) (ix2 R 0))
      = Ideal.exp2 (Quant.refExp (show EReal from v (ix2 R 0))) := by
  rw [← exp_at v w R hw]
  rfl

/-- The stored codes of row `R`. -/
theorem code_at (u : FVec Ideal S8192x2176 .f32) (v w : FVec Ideal S8192x1 .f32) (R : Fin 8192) (l : Fin 2176)
    (hw : (show EReal from w (ix2 R 0)) = Ideal.log (show EReal from v (ix2 R 0))) :
    (show EReal from k0_pay2 u v w (k0_pay8 (F := Ideal)) (ix2 R l)) = min (Ideal.ofBits FTy.f32 1138753536#32)
      (max (Ideal.ofBits FTy.f32 3286237184#32)
        ((show EReal from u (ix2 R l)) * Ideal.exp2 (0 - Quant.refExp (show EReal from v (ix2 R 0))))) := by
  rw [← exp_at v w R hw]
  pointwise [k0_pay2]
  rfl

/-- The number the scale of each row is taken from, off the normalized rows. -/
def absMax (n : FVec Ideal S8192x2176 .f32) : FVec Ideal S8192x1 .f32 :=
  mulf (shapeCast S8192x1 (multiReduction .maximumf [1] S8192 (absf n) 0xFF800000#32 reduces_S8192x2176_S8192 (.inl rfl) rfl)
    shapeCasts_S8192_S8192x1) (broadcast S8192x1 (Scalar.ofBits .f32 0x3B124925#32))

/-- The row maximum, read at a row. -/
theorem rowMax_at (a : FVec Ideal S8192x2176 .f32) (R : Fin 8192) :
    multiReduction .maximumf [1] S8192 a 0xFF800000#32 reduces_S8192x2176_S8192 (.inl rfl) rfl (ix1 R)
      = Finset.fold max (Ideal.ofBits FTy.f32 4286578688#32) (fun x => a (ix2 R x)) Finset.univ := by
  pointwise

/-- A column of 8192 numbers times the reciprocal of 448, read at a row. -/
theorem scaled_at (b : FVec Ideal S8192 .f32) (R : Fin 8192) :
    mulf (shapeCast S8192x1 b shapeCasts_S8192_S8192x1) (broadcast S8192x1 (Scalar.ofBits .f32 0x3B124925#32)) (ix2 R 0)
      = b (ix1 R) * Ideal.ofBits FTy.f32 991054117#32 := by
  pointwise

/-- That number, from the normalized row `f`. -/
theorem absMax_at (n : FVec Ideal S8192x2176 .f32) (f : Fin 2176 → EReal) (R : Fin 8192) (h : ∀ l, n (ix2 R l) = f l) :
    absMax n (ix2 R 0) = Row.amax f := by
  have e : absMax n (ix2 R 0) = Row.amax fun l => n (ix2 R l) := by
    unfold absMax
    rw [scaled_at, rowMax_at]
    rfl
  rw [e]
  exact congrArg Row.amax (funext h)

/-- Every row normalized. -/
def rmsNorm (h : FVec Ideal S8192x2176 .bf16) (g : Vec Ideal S1x2176 .bf16) : FVec Ideal S8192x2176 .f32 :=
  mulf (mulf (extf .f32 h bitsLt_bf16_f32) (broadcastTo S8192x2176 (rsqrt (addf (divf
      (shapeCast S8192x1 (multiReduction .add [1] S8192 (mulf (extf .f32 h bitsLt_bf16_f32) (extf .f32 h bitsLt_bf16_f32))
        0x00000000#32 reduces_S8192x2176_S8192 (.inl rfl) rfl) shapeCasts_S8192_S8192x1)
      (broadcast S8192x1 (Scalar.ofBits .f32 0x45080000#32))) (broadcast S8192x1 (Scalar.ofBits .f32 0x3727C5AC#32))))
      broadcasts_S8192x1_S8192x2176))
    (broadcastTo S8192x2176 (extf .f32 (shapeCast S1x2176 g shapeCasts_S1x2176_S1x2176) bitsLt_bf16_f32)
      broadcasts_S1x2176_S8192x2176)

/-- A normalized row, from the hidden state's row `f` and the weights `w`. -/
theorem rmsNorm_at (h : FVec Ideal S8192x2176 .bf16) (g : Vec Ideal S1x2176 .bf16) (f w : Fin 2176 → EReal) (R : Fin 8192)
    (l : Fin 2176) (hf : ∀ l, h (ix2 R l) = f l) (hw : ∀ l, g (ix2 0 l) = w l) :
    rmsNorm h g (ix2 R l) = Row.norm f w l := by
  have e : rmsNorm h g (ix2 R l) = Row.norm (fun l => h (ix2 R l)) (fun l => g (ix2 0 l)) l := by
    pointwise [rmsNorm]
    rfl
  rw [e]
  exact congrFun (congrArg₂ Row.norm (funext hf) (funext hw)) l

theorem log_at (a : FVec Ideal S8192x1 .f32) (R : Fin 8192) : log a (ix2 R 0) = Ideal.log (a (ix2 R 0)) := rfl

variable (v0 : Vec Ideal S8192x12032 .fp8e4m3) (v1 : Vec Ideal S8192x12032 .bf16) (v2 : Vec Ideal S12032x2176 .fp8e4m3)
  (v3 : Vec Ideal S1x2176 .f32) (v4 : Vec Ideal S8192x2176 .bf16) (v5 : Vec Ideal S1x2176 .bf16)

/-! The kernel body's values are these functions of the ones before them. -/

theorem pay5_eq : k0_pay5 v0 v1 v2 v3 v4 v5 = rmsNorm (k0_pay4 v0 v1 v2 v3 v4) v5 := rfl

theorem pay6_eq : k0_pay6 v0 v1 v2 v3 v4 v5 = absMax (k0_pay5 v0 v1 v2 v3 v4 v5) := rfl

theorem pay7_eq : k0_pay7 v0 v1 v2 v3 v4 v5 = log (k0_pay6 v0 v1 v2 v3 v4 v5) := rfl

/-! A load of a whole array is the array. -/

theorem zero2 : (![0, 0] : Fin 2 → ℕ) = fun _ => 0 := by
  funext a
  fin_cases a <;> rfl

theorem ld0 {e : EltTy} (x : Vec Ideal S8192x12032 e) : View.ld (Val := Elt Ideal) (e' := e) x r0_0 = x :=
  View.ld_unit_zero zero2 _ x

theorem ld1 {e : EltTy} (x : Vec Ideal S12032x2176 e) : View.ld (Val := Elt Ideal) (e' := e) x r0_1 = x :=
  View.ld_unit_zero zero2 _ x

theorem ld2 {e : EltTy} (x : Vec Ideal S1x2176 e) : View.ld (Val := Elt Ideal) (e' := e) x r0_2 = x :=
  View.ld_unit_zero zero2 _ x

theorem ld3 {e : EltTy} (x : Vec Ideal S8192x2176 e) : View.ld (Val := Elt Ideal) (e' := e) x r0_3 = x :=
  View.ld_unit_zero zero2 _ x

theorem pay9_eq : k0_pay9 v0 v1 v2 v3 v4 v5 = k0_pay6 v0 v1 v2 v3 v4 v5 := by
  unfold k0_pay9
  rw [ld0 v0, ld0 v1, ld1 v2, ld2 v3, ld3 v4, ld2 v5]

theorem pay10_eq : k0_pay10 v0 v1 v2 v3 v4 v5 = log (k0_pay6 v0 v1 v2 v3 v4 v5) := by
  unfold k0_pay10
  rw [ld0 v0, ld0 v1, ld1 v2, ld2 v3, ld3 v4, ld2 v5]
  exact pay7_eq v0 v1 v2 v3 v4 v5

theorem pay11_eq : k0_pay11 v0 v1 v2 v3 v4 v5 = k0_pay8 (F := Ideal) := rfl

end Cert.ReferenceIdeal.Pay

end
-- ==== Proof.RefArr.lean ====
module

public import proofs.«01_k».proof.Proof.Gen.ReferenceIdeal.Value
public import proofs.«01_k».proof.Proof.Spec
public import proofs.«01_k».proof.Proof.RefPay
public import Idealize.ShloMosaic.Lib.Pipeline.ValueKit

/-! The reference's three result arrays over its arguments. -/

@[expose] public section

set_option maxRecDepth 16384

noncomputable section

open Idealize.ShloMosaic Idealize.ShloMosaic.TcCoe Idealize.SL.Sem

namespace Cert.ReferenceIdeal.Arr

open Cert.ReferenceIdeal Cert.ReferenceIdeal.Gen

variable (m : (ℓ : Loc nD τ sig) → Buf (Elt Ideal) ℓ)

/-- The one grid point takes every array whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- The hidden state over the arguments. -/
abbrev H (c : Dev nD) : Fin 8192 → Fin 2176 → EReal :=
  Spec.hid (m ((c : Thread nD τ).loc main_arg0)) (m ((c : Thread nD τ).loc main_arg1))
    (m ((c : Thread nD τ).loc main_arg2)) (m ((c : Thread nD τ).loc main_arg3)) (m ((c : Thread nD τ).loc main_arg4))

/-- The stored hidden state. -/
theorem hid_at (c : Dev nD) (t : Fin cfg0.N) (R : Fin 8192) (l : Fin 2176) :
    (show EReal from k0_pay4 (iblk m c 0 t) (iblk m c 1 t) (iblk m c 2 t) (iblk m c 3 t) (iblk m c 4 t) (ix2 R l))
      = H m c R l := by
  pointwise [k0_pay4, H, Spec.hid]
  blk_point [iblk, V, idx t]

/-- The weights' block is the weights. -/
theorem gamma_at (c : Dev nD) (t : Fin cfg0.N) (l : Fin 2176) :
    (iblk m c 5 t : Vec Ideal S1x2176 .bf16) (ix2 0 l) = m ((c : Thread nD τ).loc main_arg5) (ix1 l) := by
  blk_point [iblk, V, idx t]

/-- The normalized hidden state over the arguments. -/
abbrev N (c : Dev nD) : Fin 8192 → Fin 2176 → EReal :=
  Spec.nrm (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The normalized rows. -/
theorem norm_at (c : Dev nD) (t : Fin cfg0.N) (R : Fin 8192) (l : Fin 2176) :
    k0_pay5 (iblk m c 0 t) (iblk m c 1 t) (iblk m c 2 t) (iblk m c 3 t) (iblk m c 4 t) (iblk m c 5 t) (ix2 R l)
      = N m c R l := by
  rw [Pay.pay5_eq]
  exact Pay.rmsNorm_at _ _ (H m c R) _ R l (fun l => hid_at m c t R l) (fun l => gamma_at m c t l)

/-- The number each row's scale is taken from. -/
theorem amax_at (c : Dev nD) (t : Fin cfg0.N) (R : Fin 8192) :
    k0_pay6 (iblk m c 0 t) (iblk m c 1 t) (iblk m c 2 t) (iblk m c 3 t) (iblk m c 4 t) (iblk m c 5 t) (ix2 R 0)
      = Row.amax (N m c R) := by
  rw [Pay.pay6_eq]
  exact Pay.absMax_at _ _ R fun l => norm_at m c t R l

/-- The first result is the hidden state. -/
theorem final6 (c : Dev nD) : (dats m 0 c).arrAt 6 cfg0.N = fun i => H m c (i 0) (i 1) := by
  refine (dats m 0 c).arrAt_eq_of_after_last 6 t0_0 (by decide +kernel) _ fun j => ?_
  blk_simp
  rw [after0_6]
  frame_out
  have hj : (j : S8192x2176.Idx) = ix2 (j 0) (j 1) := eq_ix2 _
  refine (congrArg _ hj).trans ?_
  exact hid_at m c t0_0 (j 0) (j 1)

/-- The second result is the codes. -/
theorem final7 (c : Dev nD) : (dats m 0 c).arrAt 7 cfg0.N = fun i =>
    min (Ideal.ofBits FTy.f32 1138753536#32) (max (Ideal.ofBits FTy.f32 3286237184#32)
      (N m c (i 0) (i 1) * Ideal.exp2 (0 - Quant.refExp (Row.amax (N m c (i 0)))))) := by
  refine (dats m 0 c).arrAt_eq_of_after_last 7 t0_0 (by decide +kernel) _ fun j => ?_
  blk_simp
  rw [after0_7]
  frame_out
  rw [Pay.pay9_eq, Pay.pay10_eq, Pay.pay11_eq]
  have hj : (j : S8192x2176.Idx) = ix2 (j 0) (j 1) := eq_ix2 _
  refine (congrArg _ hj).trans ?_
  refine (Pay.code_at _ _ _ (j 0) (j 1) (Pay.log_at _ _)).trans ?_
  rw [amax_at m c t0_0 (j 0), norm_at m c t0_0 (j 0) (j 1)]

/-- The third result is the scales. -/
theorem final8 (c : Dev nD) : (dats m 0 c).arrAt 8 cfg0.N = fun i =>
    Ideal.exp2 (Quant.refExp (Row.amax (N m c (i 0)))) := by
  refine (dats m 0 c).arrAt_eq_of_after_last 8 t0_0 (by decide +kernel) _ fun j => ?_
  blk_simp
  rw [after0_8]
  frame_out
  rw [Pay.pay9_eq, Pay.pay10_eq, Pay.pay11_eq]
  have hj : (j : S8192x1.Idx) = ix2 (j 0) 0 := (eq_ix2 _).trans (congrArg (ix2 (j 0)) (Subsingleton.elim (α := Fin 1) _ _))
  refine (congrArg _ hj).trans ?_
  refine (Pay.scale_at _ _ (j 0) (Pay.log_at _ _)).trans ?_
  rw [amax_at m c t0_0 (j 0)]

end Cert.ReferenceIdeal.Arr

end
-- ==== Proof.Finite.lean ====
module

public import proofs.«01_k».proof.Pre_gamma_finite
public import proofs.«01_k».proof.Proof.Row
public import Idealize.ShloMosaic.PureOps.Reduce

/-! The precondition, read weight by weight. -/

@[expose] public section

noncomputable section

open Idealize.ShloMosaic

namespace Cert.Pre_gamma_finite

variable [Facts]
open Facts

/-- A conjunction that holds holds at every member. -/
theorem fold_and {ι : Type} (f : ι → BitVec 1) (b : BitVec 1) (s : Finset ι) :
    Finset.fold IntOp.andi b f s = 1#1 → ∀ i ∈ s, f i = 1#1 := by
  classical
  induction s using Finset.cons_induction with
  | empty => intro _ i hi; simp at hi
  | cons a s ha ih =>
    intro h i hi
    rw [Finset.fold_cons] at h
    have h2 : f a = 1#1 ∧ Finset.fold IntOp.andi b f s = 1#1 := by
      revert h
      generalize f a = x
      generalize Finset.fold IntOp.andi b f s = y
      revert x y
      decide
    rcases Finset.mem_cons.1 hi with rfl | hi
    · exact h2.1
    · exact ih h2.2 i hi

/-- Where the precondition holds, no weight exceeds the largest bfloat16 number. -/
theorem bound (x0 : FVec Ideal S4x2048x12032 .fp8e4m3) (x1 : FVec Ideal S4x2048x94 .f32) (x2 : FVec Ideal S12032x2176 .fp8e4m3)
    (x3 : FVec Ideal S2176 .f32) (x4 : FVec Ideal S4x2048x2176 .bf16) (x5 : FVec Ideal S2176 .bf16)
    (h : fn (F := Ideal) x0 x1 x2 x3 x4 x5 = fun _ => 1#1) (l : Fin 2176) :
    max (show EReal from x5 (ix1 l)) (-(show EReal from x5 (ix1 l))) ≤ Ideal.ofBits FTy.bf16 0x7F7F#16 := by
  have h0 := congrFun h (fun a => a.elim0)
  unfold fn at h0
  dsimp only at h0
  rw [Host.reduce_eq_fold] at h0
  have h1 := fold_and _ _ _ h0 (ix1 l) (Finset.mem_filter.2 ⟨Finset.mem_univ _, funext fun a => a.elim0⟩)
  have h2 : BitVec.ofBool (decide (max (show EReal from x5 (ix1 l)) (-(show EReal from x5 (ix1 l)))
    ≤ Ideal.ofBits FTy.bf16 0x7F7F#16)) = 1#1 := h1
  by_contra hc
  rw [decide_eq_false hc] at h2
  exact absurd h2 (by decide)

end Cert.Pre_gamma_finite

end
-- ==== Proof.Equation.lean ====
module

public import proofs.«01_k».proof.Proof.KernelArr
public import proofs.«01_k».proof.Proof.RefArr
public import proofs.«01_k».proof.Proof.Finite

/-! The equation: from equal arguments with finite weights, the two programs' three arrays are equal. -/

@[expose] public section

set_option maxRecDepth 16384

noncomputable section

open Idealize.ShloMosaic Idealize.ShloMosaic.TcCoe Idealize.SL.Sem

namespace Cert.Equation

/-- The codes, by either scale. -/
theorem code_eq (n : Fin 2176 → EReal) (l : Fin 2176) (x y : EReal) (h : x = y) :
    min (Ideal.ofBits FTy.f32 1138753536#32) (max (Ideal.ofBits FTy.f32 3286237184#32) (n l * x))
      = min (Ideal.ofBits FTy.f32 1138753536#32) (max (Ideal.ofBits FTy.f32 3286237184#32) (n l * y)) := by
  rw [h]

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two programs start from the same arguments. -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)

theorem hid_congr {x x' : FVec Ideal Spec.SX .fp8e4m3} {s s' : FVec Ideal Spec.SS .f32} {w w' : FVec Ideal Spec.SW .fp8e4m3}
    {a a' : FVec Ideal Spec.SG .f32} {r r' : FVec Ideal Spec.SH .bf16} (h0 : x = x') (h1 : s = s') (h2 : w = w') (h3 : a = a')
    (h4 : r = r') : Spec.hid x s w a r = Spec.hid x' s' w' a' r' := by
  rw [h0, h1, h2, h3, h4]

theorem nrm_congr {x x' : FVec Ideal Spec.SX .fp8e4m3} {s s' : FVec Ideal Spec.SS .f32} {w w' : FVec Ideal Spec.SW .fp8e4m3}
    {a a' : FVec Ideal Spec.SG .f32} {r r' : FVec Ideal Spec.SH .bf16} {g g' : FVec Ideal Spec.SG .bf16} (h0 : x = x')
    (h1 : s = s') (h2 : w = w') (h3 : a = a') (h4 : r = r') (h5 : g = g') : Spec.nrm x s w a r g = Spec.nrm x' s' w' a' r' g' := by
  rw [h0, h1, h2, h3, h4, h5]

theorem hid_eq (h : Agree m m' c) : ReferenceIdeal.Arr.H m' c = KernelIdeal.Arr.H m c :=
  hid_congr h.1 h.2.1 h.2.2.1 h.2.2.2.1 h.2.2.2.2.1

theorem nrm_eq (h : Agree m m' c) : ReferenceIdeal.Arr.N m' c = KernelIdeal.Arr.N m c :=
  nrm_congr h.1 h.2.1 h.2.2.1 h.2.2.2.1 h.2.2.2.2.1 h.2.2.2.2.2

/-- The hidden state. -/
theorem first (h : Agree m m' c) :
    (ReferenceIdeal.Gen.dats m' 0 c).arrAt 6 ReferenceIdeal.cfg0.N = (KernelIdeal.Gen.dats m 0 c).arrAt 6 KernelIdeal.cfg0.N := by
  refine (ReferenceIdeal.Arr.final6 m' c).trans (Eq.trans ?_ (KernelIdeal.Arr.final6 m c).symm)
  rw [hid_eq m m' c h]
  rfl

variable (hg : ∀ l : Fin 2176, max (show EReal from m ((c.tc : Thread KernelIdeal.nD KernelIdeal.τ).loc KernelIdeal.main_arg5) (ix1 l))
  (-(show EReal from m ((c.tc : Thread KernelIdeal.nD KernelIdeal.τ).loc KernelIdeal.main_arg5) (ix1 l))) ≤ Ideal.ofBits FTy.bf16 0x7F7F#16)

include hg

/-- The codes. -/
theorem second (h : Agree m m' c) :
    (ReferenceIdeal.Gen.dats m' 0 c).arrAt 7 ReferenceIdeal.cfg0.N = (KernelIdeal.Gen.dats m 0 c).arrAt 7 KernelIdeal.cfg0.N := by
  refine (ReferenceIdeal.Arr.final7 m' c).trans (Eq.trans ?_ (KernelIdeal.Arr.final7 m c).symm)
  rw [nrm_eq m m' c h]
  funext i
  exact code_eq (KernelIdeal.Arr.N m c (i 0)) (i 1) _ _ (Row.scale_eq (KernelIdeal.Arr.H m c (i 0)) _ hg).2.symm

/-- The scales. -/
theorem third (h : Agree m m' c) :
    (ReferenceIdeal.Gen.dats m' 0 c).arrAt 8 ReferenceIdeal.cfg0.N = (KernelIdeal.Gen.dats m 0 c).arrAt 8 KernelIdeal.cfg0.N := by
  refine (ReferenceIdeal.Arr.final8 m' c).trans (Eq.trans ?_ (KernelIdeal.Arr.final8 m c).symm)
  rw [nrm_eq m m' c h]
  funext i
  exact (Row.scale_eq (KernelIdeal.Arr.H m c (i 0)) _ hg).1.symm

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_gamma_finite
public import proofs.«01_k».proof.Proof.Equation

/-! The certificate: the frames are the generated runs, and the value claim sets the two runs' arrays equal by
`Equation`. -/

@[expose] public section

noncomputable section

namespace Cert.Proof

open Idealize.ShloMosaic Idealize.SL.Sem

/-- From equal arguments with finite weights the kernel and the reference end with equal results. -/
theorem value : Cert.algebraic_KernelIdeal_ReferenceIdeal_pre_gamma_finite (hKernelIdeal := Cert.KernelIdeal.Gen.facts)
    (hReferenceIdeal := Cert.ReferenceIdeal.Gen.facts) (hPre_gamma_finite := Cert.Pre_gamma_finite.Gen.facts) := by
  intro m g m' g' hp ha
  have hg := fun c => letI := Cert.Pre_gamma_finite.Gen.facts; Cert.Pre_gamma_finite.bound _ _ _ _ _ _ (hp c)
  refine ⟨fun c => (KernelIdeal.Gen.dats m 0 c).arrAt 6 KernelIdeal.cfg0.N,
    fun c => (KernelIdeal.Gen.dats m 0 c).arrAt 7 KernelIdeal.cfg0.N,
    fun c => (KernelIdeal.Gen.dats m 0 c).arrAt 8 KernelIdeal.cfg0.N, KernelIdeal.Value.run_blocks m g, ?_⟩
  refine (θ_run _ _ _).mono (fun r h c => ?_) (ReferenceIdeal.Value.run_blocks m' g')
  obtain ⟨h0, h1, h2, hk⟩ := h c
  exact ⟨h0.trans (Equation.first m m' c (ha c)), h1.trans (Equation.second m m' c (hg c) (ha c)),
    h2.trans (Equation.third m m' c (hg c) (ha c)), hk⟩

theorem claim : Cert.Claim := ⟨Cert.Kernel.Gen.facts, Cert.KernelIdeal.Gen.facts, Cert.ReferenceIdeal.Gen.facts, Cert.Pre_gamma_finite.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  value⟩

end Cert.Proof

end
